-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separable [hPre_separable : Cert.Pre_separable.Facts] (m : (ℓ : Loc Cert.KernelIdeal.nD Cert.KernelIdeal.τ Cert.KernelIdeal.sig) → Buf (Elt Ideal) ℓ) : Prop :=
  ∀ c : Dev Cert.KernelIdeal.nD,
    (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_separable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separable [hPre_separable : Cert.Pre_separable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_separable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separable [hKernelIdeal : Cert.KernelIdeal.Facts] [hPre_separable : Cert.Pre_separable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separable [hReferenceIdeal : Cert.ReferenceIdeal.Facts] [hPre_separable : Cert.Pre_separable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separable [hKernelIdeal : Cert.KernelIdeal.Facts] [hReferenceIdeal : Cert.ReferenceIdeal.Facts] [hPre_separable : Cert.Pre_separable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separable : Cert.Pre_separable.Facts),
    quiescent_Kernel (hKernel := hKernel)
    ∧ quiescent_KernelIdeal (hKernelIdeal := hKernelIdeal)
    ∧ quiescent_KernelIdeal_pre_separable (hKernelIdeal := hKernelIdeal) (hPre_separable := hPre_separable)
    ∧ quiescent_ReferenceIdeal (hReferenceIdeal := hReferenceIdeal)
    ∧ quiescent_ReferenceIdeal_pre_separable (hReferenceIdeal := hReferenceIdeal) (hPre_separable := hPre_separable)
    ∧ preserves_Kernel_KernelIdeal
    ∧ algebraic_KernelIdeal_ReferenceIdeal_pre_separable (hKernelIdeal := hKernelIdeal) (hReferenceIdeal := hReferenceIdeal) (hPre_separable := hPre_separable)
-- ==== Pre_separable.lean ====
abbrev S8x128x256x256 : Shape := ⟨4, ![8, 128, 256, 256]⟩
abbrev S4x4 : Shape := ⟨2, ![4, 4]⟩
abbrev S1x1 : Shape := ⟨2, ![1, 1]⟩
abbrev S_ : Shape := ⟨0, ![]⟩
abbrev S4x1 : Shape := ⟨2, ![4, 1]⟩
abbrev S1x4 : Shape := ⟨2, ![1, 4]⟩

class Facts : Prop where
  slices_S4x4_S1x1_3_3 : S4x4.Slices ![3, 3] S1x1
  shapeCasts_S1x1_S_ : S1x1.ShapeCasts S_
  bcast_S_S4x4 : S_.BroadcastsInDim S4x4 (![] : Fin 0 → Fin S4x4.rank)
  slices_S4x4_S4x1_0_3 : S4x4.Slices ![0, 3] S4x1
  slices_S4x4_S1x4_3_0 : S4x4.Slices ![3, 0] S1x4
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  bcast_S_S4x1 : S_.BroadcastsInDim S4x1 (![] : Fin 0 → Fin S4x1.rank)
  reducesTo_S4x1_S_d0_1 : S4x1.ReducesTo [0, 1] S_
  h_S_ : 0 < S_.numel
  bcast_S_S8x128x256x256 : S_.BroadcastsInDim S8x128x256x256 (![] : Fin 0 → Fin S8x128x256x256.rank)

variable [Facts]

def fn_part1 {F : FTy → Type} [FloatOps F] (main_v4 : IVec S4x4 1) (main_v5 : IVec S_ 1) (main_v13 : IVec S4x4 1) (main_v17 : IVec S_ 1) (main_v18 : FVec F S8x128x256x256 .f32) (main_cst_2 : FVec F S_ .f32) : IVec S4x4 1 × IVec S_ 1 × IVec S4x4 1 × IVec S8x128x256x256 1 :=
  let main_v19 : FVec F S8x128x256x256 .f32 := broadcastInDim S8x128x256x256 ![] bcast_S_S8x128x256x256 main_cst_2
  let main_v20 : IVec S8x128x256x256 1 := cmpf .olt main_v18 main_v19
  let main_v21 : IVec S8x128x256x256 1 := broadcastInDim S8x128x256x256 ![] bcast_S_S8x128x256x256 main_v17
  let main_v22 : IVec S8x128x256x256 1 := ori main_v21 main_v20
  (main_v4, main_v5, main_v13, main_v22)

def fn {F : FTy → Type} [FloatOps F] (main_arg0 : FVec F S8x128x256x256 .f32) (main_arg1 : FVec F S4x4 .f32) : IVec S4x4 1 × IVec S_ 1 × IVec S4x4 1 × IVec S8x128x256x256 1 :=
  let main_v0 : FVec F S1x1 .f32 := (extractStridedSlice S1x1 ![3, 3] · slices_S4x4_S1x1_3_3) main_arg1
  let main_v1 : FVec F S_ .f32 := shapeCast S_ main_v0 shapeCasts_S1x1_S_
  let main_v2 : FVec F S4x4 .f32 := Host.absf main_arg1
  let main_cst : FVec F S_ .f32 := constant S_ .f32 0x7F800000#32
  let main_v3 : FVec F S4x4 .f32 := broadcastInDim S4x4 ![] bcast_S_S4x4 main_cst
  let main_v4 : IVec S4x4 1 := cmpf .olt main_v2 main_v3
  let main_cst_0 : FVec F S_ .f32 := constant S_ .f32 0x00000000#32
  let main_v5 : IVec S_ 1 := cmpf .une main_v1 main_cst_0
  let main_v6 : FVec F S4x4 .f32 := broadcastInDim S4x4 ![] bcast_S_S4x4 main_v1
  let main_v7 : FVec F S4x4 .f32 := mulf main_arg1 main_v6
  let main_v8 : FVec F S4x1 .f32 := (extractStridedSlice S4x1 ![0, 3] · slices_S4x4_S4x1_0_3) main_arg1
  let main_v9 : FVec F S1x4 .f32 := (extractStridedSlice S1x4 ![3, 0] · slices_S4x4_S1x4_3_0) main_arg1
  let main_v10 : FVec F S4x4 .f32 := broadcastInDim S4x4 ![0, 1] bcast_S4x1_S4x4_0_1 main_v8
  let main_v11 : FVec F S4x4 .f32 := broadcastInDim S4x4 ![0, 1] bcast_S1x4_S4x4_0_1 main_v9
  let main_v12 : FVec F S4x4 .f32 := mulf main_v10 main_v11
  let main_v13 : IVec S4x4 1 := cmpf .oeq main_v7 main_v12
  let main_v14 : FVec F S4x1 .f32 := (extractStridedSlice S4x1 ![0, 3] · slices_S4x4_S4x1_0_3) main_arg1
  let main_cst_1 : FVec F S_ .f32 := constant S_ .f32 0x00000000#32
  let main_v15 : FVec F S4x1 .f32 := broadcastInDim S4x1 ![] bcast_S_S4x1 main_cst_1
  let main_v16 : IVec S4x1 1 := cmpf .oge main_v14 main_v15
  let main_c : IVec S_ 1 := constantI S_ 1 1#1
  let main_v17 : IVec S_ 1 := (fun x v => Host.reduce IntOp.andi x v reducesTo_S4x1_S_d0_1 h_S_) main_v16 main_c
  let main_v18 : FVec F S8x128x256x256 .f32 := Host.absf main_arg0
  let main_cst_2 : FVec F S_ .f32 := constant S_ .f32 0x7F800000#32
  fn_part1 (F := F) main_v4 main_v5 main_v13 main_v17 main_v18 main_cst_2
-- ==== Kernel.lean ====
abbrev S8x128x256x256 : Shape := ⟨4, ![8, 128, 256, 256]⟩
abbrev S4x4 : Shape := ⟨2, ![4, 4]⟩
abbrev S4x1 : Shape := ⟨2, ![4, 1]⟩
abbrev S4 : Shape := ⟨1, ![4]⟩
abbrev S1x4 : Shape := ⟨2, ![1, 4]⟩
abbrev S1x1 : Shape := ⟨2, ![1, 1]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x256x1 : Shape := ⟨3, ![256, 256, 1]⟩
abbrev S1024x256x256 : Shape := ⟨3, ![1024, 256, 256]⟩
abbrev S32x256x256 : Shape := ⟨3, ![32, 256, 256]⟩
abbrev S8192x256 : Shape := ⟨2, ![8192, 256]⟩
abbrev S1x256x256 : Shape := ⟨3, ![1, 256, 256]⟩

abbrev nBuf : Space → Nat
  | .hbm => 82
  | .vmem => 6
  | .smem => 0
  | _ => 0

abbrev bufTy : (tb : Table) → Fin (tcTables nBuf tb) → BufTy
  | .hbm, ⟨0, _⟩ => ⟨S8x128x256x256, .f32⟩
  | .hbm, ⟨1, _⟩ => ⟨S4x4, .f32⟩
  | .hbm, ⟨2, _⟩ => ⟨S4x4, .f32⟩
  | .hbm, ⟨3, _⟩ => ⟨S4x1, .f32⟩
  | .hbm, ⟨4, _⟩ => ⟨S4, .f32⟩
  | .hbm, ⟨5, _⟩ => ⟨S1x4, .f32⟩
  | .hbm, ⟨6, _⟩ => ⟨S4, .f32⟩
  | .hbm, ⟨7, _⟩ => ⟨S1x1, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S256, .i32⟩
  | .hbm, ⟨12, _⟩ => ⟨S256x1, .i32⟩
  | .hbm, ⟨13, _⟩ => ⟨S1x256, .i32⟩
  | .hbm, ⟨14, _⟩ => ⟨S256x256, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S256x256, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i1⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S256x256x1, .i32⟩
  | .hbm, ⟨43, _⟩ => ⟨S256x256, .f32⟩
  | .hbm, ⟨44, _⟩ => ⟨S_, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S256x256, .bf16⟩
  | .hbm, ⟨49, _⟩ => ⟨S_, .i32⟩
  | .hbm, ⟨50, _⟩ => ⟨S256x256, .i32⟩
  | .hbm, ⟨51, _⟩ => ⟨S256x256, .i1⟩
  | .hbm, ⟨52, _⟩ => ⟨S_, .i32⟩
  | .hbm, ⟨53, _⟩ => ⟨S256x256, .i32⟩
  | .hbm, ⟨54, _⟩ => ⟨S256x256, .i1⟩
  | .hbm, ⟨55, _⟩ => ⟨S256x256, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S256x256, .i32⟩
  | .hbm, ⟨60, _⟩ => ⟨S256x256, .i32⟩
  | .hbm, ⟨61, _⟩ => ⟨S_, .i32⟩
  | .hbm, ⟨62, _⟩ => ⟨S256x256, .i32⟩
  | .hbm, ⟨63, _⟩ => ⟨S256x256, .i32⟩
  | .hbm, ⟨64, _⟩ => ⟨S_, .i32⟩
  | .hbm, ⟨65, _⟩ => ⟨S256x256, .i32⟩
  | .hbm, ⟨66, _⟩ => ⟨S256x256, .i1⟩
  | .hbm, ⟨67, _⟩ => ⟨S_, .i32⟩
  | .hbm, ⟨68, _⟩ => ⟨S256x256, .i32⟩
  | .hbm, ⟨69, _⟩ => ⟨S256x256, .i32⟩
  | .hbm, ⟨70, _⟩ => ⟨S256x256, .i32⟩
  | .hbm, ⟨71, _⟩ => ⟨S256x256x1, .i32⟩
  | .hbm, ⟨72, _⟩ => ⟨S256x256, .f32⟩
  | .hbm, ⟨73, _⟩ => ⟨S_, .f32⟩
  | .hbm, ⟨74, _⟩ => ⟨S_, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S256x256, .bf16⟩
  | .hbm, ⟨79, _⟩ => ⟨S1024x256x256, .f32⟩
  | .hbm, ⟨80, _⟩ => ⟨S1024x256x256, .f32⟩
  | .hbm, ⟨81, _⟩ => ⟨S8x128x256x256, .f32⟩
  | .local _ .vmem, ⟨0, _⟩ => ⟨S256x256, .bf16⟩
  | .local _ .vmem, ⟨1, _⟩ => ⟨S256x256, .bf16⟩
  | .local _ .vmem, ⟨2, _⟩ => ⟨S32x256x256, .f32⟩
  | .local _ .vmem, ⟨3, _⟩ => ⟨S32x256x256, .f32⟩
  | .local _ .vmem, ⟨4, _⟩ => ⟨S32x256x256, .f32⟩
  | .local _ .vmem, ⟨5, _⟩ => ⟨S32x256x256, .f32⟩
  | _, _ => ⟨S8x128x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_call2_v0 : Ref sig .tc := ⟨.hbm, 45, rfl⟩
abbrev main_call2_v1 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_c_9 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x128x256x256 : Shape := ⟨4, ![8, 128, 256, 256]⟩
abbrev S4x4 : Shape := ⟨2, ![4, 4]⟩
abbrev S_ : Shape := ⟨0, ![]⟩
abbrev S8x128x259x259 : Shape := ⟨4, ![8, 128, 259, 259]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S8x128x256x256, .f32⟩
  | .hbm, ⟨1, _⟩ => ⟨S4x4, .f32⟩
  | .hbm, ⟨2, _⟩ => ⟨S_, .i32⟩
  | .hbm, ⟨3, _⟩ => ⟨S_, .f32⟩
  | .hbm, ⟨4, _⟩ => ⟨S8x128x259x259, .f32⟩
  | .hbm, ⟨5, _⟩ => ⟨S4x4, .f32⟩
  | .hbm, ⟨6, _⟩ => ⟨S_, .f32⟩
  | .hbm, ⟨7, _⟩ => ⟨S8x128x256x256, .f32⟩
  | .hbm, ⟨8, _⟩ => ⟨S1x1, .f32⟩
  | .hbm, ⟨9, _⟩ => ⟨S_, .f32⟩
  | .hbm, ⟨10, _⟩ => ⟨S8x128x256x256, .f32⟩
  | .hbm, ⟨11, _⟩ => ⟨S8x128x256x256, .f32⟩
  | .hbm, ⟨12, _⟩ => ⟨S8x128x256x256, .f32⟩
  | .hbm, ⟨13, _⟩ => ⟨S8x128x256x256, .f32⟩
  | .hbm, ⟨14, _⟩ => ⟨S1x1, .f32⟩
  | .hbm, ⟨15, _⟩ => ⟨S_, .f32⟩
  | .hbm, ⟨16, _⟩ => ⟨S8x128x256x256, .f32⟩
  | .hbm, ⟨17, _⟩ => ⟨S8x128x256x256, .f32⟩
  | .hbm, ⟨18, _⟩ => ⟨S8x128x256x256, .f32⟩
  | .hbm, ⟨19, _⟩ => ⟨S8x128x256x256, .f32⟩
  | .hbm, ⟨20, _⟩ => ⟨S1x1, .f32⟩
  | .hbm, ⟨21, _⟩ => ⟨S_, .f32⟩
  | .hbm, ⟨22, _⟩ => ⟨S8x128x256x256, .f32⟩
  | .hbm, ⟨23, _⟩ => ⟨S8x128x256x256, .f32⟩
  | .hbm, ⟨24, _⟩ => ⟨S8x128x256x256, .f32⟩
  | .hbm, ⟨25, _⟩ => ⟨S8x128x256x256, .f32⟩
  | .hbm, ⟨26, _⟩ => ⟨S1x1, .f32⟩
  | .hbm, ⟨27, _⟩ => ⟨S_, .f32⟩
  | .hbm, ⟨28, _⟩ => ⟨S8x128x256x256, .f32⟩
  | .hbm, ⟨29, _⟩ => ⟨S8x128x256x256, .f32⟩
  | .hbm, ⟨30, _⟩ => ⟨S8x128x256x256, .f32⟩
  | .hbm, ⟨31, _⟩ => ⟨S8x128x256x256, .f32⟩
  | .hbm, ⟨32, _⟩ => ⟨S1x1, .f32⟩
  | .hbm, ⟨33, _⟩ => ⟨S_, .f32⟩
  | .hbm, ⟨34, _⟩ => ⟨S8x128x256x256, .f32⟩
  | .hbm, ⟨35, _⟩ => ⟨S8x128x256x256, .f32⟩
  | .hbm, ⟨36, _⟩ => ⟨S8x128x256x256, .f32⟩
  | .hbm, ⟨37, _⟩ => ⟨S8x128x256x256, .f32⟩
  | .hbm, ⟨38, _⟩ => ⟨S1x1, .f32⟩
  | .hbm, ⟨39, _⟩ => ⟨S_, .f32⟩
  | .hbm, ⟨40, _⟩ => ⟨S8x128x256x256, .f32⟩
  | .hbm, ⟨41, _⟩ => ⟨S8x128x256x256, .f32⟩
  | .hbm, ⟨42, _⟩ => ⟨S8x128x256x256, .f32⟩
  | .hbm, ⟨43, _⟩ => ⟨S8x128x256x256, .f32⟩
  | .hbm, ⟨44, _⟩ => ⟨S1x1, .f32⟩
  | .hbm, ⟨45, _⟩ => ⟨S_, .f32⟩
  | .hbm, ⟨46, _⟩ => ⟨S8x128x256x256, .f32⟩
  | .hbm, ⟨47, _⟩ => ⟨S8x128x256x256, .f32⟩
  | .hbm, ⟨48, _⟩ => ⟨S8x128x256x256, .f32⟩
  | .hbm, ⟨49, _⟩ => ⟨S8x128x256x256, .f32⟩
  | .hbm, ⟨50, _⟩ => ⟨S1x1, .f32⟩
  | .hbm, ⟨51, _⟩ => ⟨S_, .f32⟩
  | .hbm, ⟨52, _⟩ => ⟨S8x128x256x256, .f32⟩
  | .hbm, ⟨53, _⟩ => ⟨S8x128x256x256, .f32⟩
  | .hbm, ⟨54, _⟩ => ⟨S8x128x256x256, .f32⟩
  | .hbm, ⟨55, _⟩ => ⟨S8x128x256x256, .f32⟩
  | .hbm, ⟨56, _⟩ => ⟨S1x1, .f32⟩
  | .hbm, ⟨57, _⟩ => ⟨S_, .f32⟩
  | .hbm, ⟨58, _⟩ => ⟨S8x128x256x256, .f32⟩
  | .hbm, ⟨59, _⟩ => ⟨S8x128x256x256, .f32⟩
  | .hbm, ⟨60, _⟩ => ⟨S8x128x256x256, .f32⟩
  | .hbm, ⟨61, _⟩ => ⟨S8x128x256x256, .f32⟩
  | .hbm, ⟨62, _⟩ => ⟨S1x1, .f32⟩
  | .hbm, ⟨63, _⟩ => ⟨S_, .f32⟩
  | .hbm, ⟨64, _⟩ => ⟨S8x128x256x256, .f32⟩
  | .hbm, ⟨65, _⟩ => ⟨S8x128x256x256, .f32⟩
  | .hbm, ⟨66, _⟩ => ⟨S8x128x256x256, .f32⟩
  | .hbm, ⟨67, _⟩ => ⟨S8x128x256x256, .f32⟩
  | .hbm, ⟨68, _⟩ => ⟨S1x1, .f32⟩
  | .hbm, ⟨69, _⟩ => ⟨S_, .f32⟩
  | .hbm, ⟨70, _⟩ => ⟨S8x128x256x256, .f32⟩
  | .hbm, ⟨71, _⟩ => ⟨S8x128x256x256, .f32⟩
  | .hbm, ⟨72, _⟩ => ⟨S8x128x256x256, .f32⟩
  | .hbm, ⟨73, _⟩ => ⟨S8x128x256x256, .f32⟩
  | .hbm, ⟨74, _⟩ => ⟨S1x1, .f32⟩
  | .hbm, ⟨75, _⟩ => ⟨S_, .f32⟩
  | .hbm, ⟨76, _⟩ => ⟨S8x128x256x256, .f32⟩
  | .hbm, ⟨77, _⟩ => ⟨S8x128x256x256, .f32⟩
  | .hbm, ⟨78, _⟩ => ⟨S8x128x256x256, .f32⟩
  | .hbm, ⟨79, _⟩ => ⟨S8x128x256x256, .f32⟩
  | .hbm, ⟨80, _⟩ => ⟨S1x1, .f32⟩
  | .hbm, ⟨81, _⟩ => ⟨S_, .f32⟩
  | .hbm, ⟨82, _⟩ => ⟨S8x128x256x256, .f32⟩
  | .hbm, ⟨83, _⟩ => ⟨S8x128x256x256, .f32⟩
  | .hbm, ⟨84, _⟩ => ⟨S8x128x256x256, .f32⟩
  | .hbm, ⟨85, _⟩ => ⟨S8x128x256x256, .f32⟩
  | .hbm, ⟨86, _⟩ => ⟨S1x1, .f32⟩
  | .hbm, ⟨87, _⟩ => ⟨S_, .f32⟩
  | .hbm, ⟨88, _⟩ => ⟨S8x128x256x256, .f32⟩
  | .hbm, ⟨89, _⟩ => ⟨S8x128x256x256, .f32⟩
  | .hbm, ⟨90, _⟩ => ⟨S8x128x256x256, .f32⟩
  | .hbm, ⟨91, _⟩ => ⟨S8x128x256x256, .f32⟩
  | .hbm, ⟨92, _⟩ => ⟨S1x1, .f32⟩
  | .hbm, ⟨93, _⟩ => ⟨S_, .f32⟩
  | .hbm, ⟨94, _⟩ => ⟨S8x128x256x256, .f32⟩
  | .hbm, ⟨95, _⟩ => ⟨S8x128x256x256, .f32⟩
  | .hbm, ⟨96, _⟩ => ⟨S8x128x256x256, .f32⟩
  | .hbm, ⟨97, _⟩ => ⟨S8x128x256x256, .f32⟩
  | .hbm, ⟨98, _⟩ => ⟨S1x1, .f32⟩
  | .hbm, ⟨99, _⟩ => ⟨S_, .f32⟩
  | .hbm, ⟨100, _⟩ => ⟨S8x128x256x256, .f32⟩
  | .hbm, ⟨101, _⟩ => ⟨S8x128x256x256, .f32⟩
  | .hbm, ⟨102, _⟩ => ⟨S8x128x256x256, .f32⟩
  | .hbm, ⟨103, _⟩ => ⟨S8x128x256x256, .f32⟩
  | _, _ => ⟨S8x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩

abbrev nD : Nat := 1
abbrev τ : Topo := Topo.v7x

variable {F : FTy → Type} [FloatOps F]
-- ==== Proof.Pre.lean ====
/- WHAT THE PRECONDITION SAYS of the filter and the image, entry by entry. -/
module

public import proofs.«01_k».proof.Defs
public import proofs.«01_k».proof.Proof.Gen.Pre_separable
public import Idealize.ShloMosaic.Lib.Claim
public import Idealize.ShloMosaic.Lib.Pointwise
public import Idealize.ShloMosaic.Lib.IdealHost
public import Idealize.ShloMosaic.Lib.ReduceAll

@[expose] public section

set_option maxRecDepth 16384

noncomputable section

namespace Cert.Pre_separable.Value

open Cert.Pre_separable Cert.Pre_separable.Gen
open Idealize.ShloMosaic Idealize.ShloMosaic.TcCoe Idealize.SL.Sem

variable (X : FVec Ideal S8x128x256x256 .f32) (K : FVec Ideal S4x4 .f32)

/-- The single-precision word of plus infinity is plus infinity. -/
theorem ofBits_top : Ideal.ofBits .f32 0x7F800000#32 = (⊤ : EReal) := by simp [Ideal.ofBits, Ideal.ieee]

/-- A value of absolute value below plus infinity is a real number. -/
theorem real_of_abs_lt (x : EReal) (h : max x (-x) < ⊤) : ∃ r : ℝ, x = (r : EReal) := by
  induction x with
  | bot => simp at h
  | top => simp at h
  | coe r => exact ⟨r, rfl⟩

/-- A truth value written as a one-bit word of 1 is true. -/
theorem of_ofBool {p : Prop} [Decidable p] (h : BitVec.ofBool (decide p) = 1#1) : p := by
  by_contra hp
  rw [decide_eq_false hp] at h
  exact absurd h (by decide)

/-- The bit of "the absolute value is below plus infinity" being 1 makes the value a real number. -/
theorem real_of_bit (x : EReal)
    (h : Ideal.cmp .olt (max x (-x)) (Ideal.ofBits .f32 0x7F800000#32) = 1#1) : ∃ r : ℝ, x = (r : EReal) := by
  rw [ofBits_top] at h
  exact real_of_abs_lt x (of_ofBool h)

/-- Every entry of the filter is a real number. -/
theorem finite_of (h : (fn X K).1 = fun _ => 1#1) (a b : Fin 4) : ∃ r : ℝ, K (ix2 a b) = (r : EReal) :=
  real_of_bit (K (ix2 a b)) (congrFun h (ix2 a b))

/-- The filter's last entry is not zero. -/
theorem corner_of (h : (fn X K).2.1 = fun _ => 1#1) : K (ix2 3 3) ≠ (0 : EReal) := by
  have h1 : (cmpf CmpFPredicate.une (shapeCast S_ (extractStridedSlice S1x1 ![3, 3] K slices_S4x4_S1x1_3_3) shapeCasts_S1x1_S_)
      (constant S_ FTy.f32 0#32)) ix0 = 1#1 := congrFun h ix0
  pointwise at h1
  exact of_ofBool h1

/-- The filter is the product of its last column and its last row, up to the corner they share. -/
theorem product_of (h : (fn X K).2.2.1 = fun _ => 1#1) (a b : Fin 4) :
    (K (ix2 a b) * K (ix2 3 3) : EReal) = K (ix2 a 3) * K (ix2 3 b) := by
  have h1 := congrFun h (ix2 a b)
  unfold fn fn_part1 at h1
  dsimp only at h1
  pointwise at h1
  exact of_ofBool h1

/-- Either the filter's last column has no negative entry, or every entry of the image is a real number. -/
theorem sign_of (h : (fn X K).2.2.2 = fun _ => 1#1) :
    (∀ a, (0 : EReal) ≤ K (ix2 a 3)) ∨ ∀ n c k l, ∃ r : ℝ, X (ix4 n c k l) = (r : EReal) := by
  let bit : IVec S_ 1 := Host.reduce IntOp.andi
    (cmpf CmpFPredicate.oge (extractStridedSlice S4x1 ![0, 3] K slices_S4x4_S4x1_0_3)
      (broadcastInDim S4x1 ![] bcast_S_S4x1 (constant S_ FTy.f32 0#32)))
    (constantI S_ 1 1#1) reducesTo_S4x1_S_d0_1 h_S_
  have hbit : ∀ i, IntOp.ori (bit ix0) (Ideal.cmp .olt (max (X i) (-(X i) : EReal)) (Ideal.ofBits .f32 0x7F800000#32)) = 1#1 := by
    intro i
    have h1 := congrFun h i
    have h2 : broadcastInDim S8x128x256x256 ![] bcast_S_S8x128x256x256 bit i = bit ix0 := by pointwise
    rw [← h2]
    exact h1
  by_cases hb : bit ix0 = 1#1
  · left
    intro a
    have : Subsingleton S_.Idx := ⟨fun x y => funext fun a => a.elim0⟩
    have h1 := Host.reduce_andi_all _ _ reducesTo_S4x1_S_d0_1 h_S_ ix0 hb (ix2 a 0)
    pointwise at h1
    exact of_ofBool h1
  · right
    intro n c k l
    refine real_of_bit _ ?_
    have h1 := hbit (ix4 n c k l)
    revert h1 hb
    generalize bit ix0 = p
    generalize Ideal.cmp _ _ _ = q
    revert p q
    decide

end Cert.Pre_separable.Value

end
-- ==== Proof.Band.lean ====
/- THE ALGEBRA, over the extended reals: a product with a band matrix of four taps is a sum of four shifted products of
   the zero-padded row, and two such products, one along each axis, are the sixteen shifted products of a filter which
   is the product of a column and a row. -/
module

public import Mathlib.Data.EReal.Operations
public import Mathlib.Data.EReal.Inv
public import Mathlib.Algebra.BigOperators.Fin
public import Mathlib.Tactic.FieldSimp
public import Mathlib.Tactic.Ring
public import Mathlib.Tactic.FinCases

@[expose] public section

noncomputable section

namespace Cert.Blur

/-- The entry of the band matrix of the taps `v` in row `l` and column `w`: tap number `l + 2 - w` when there is one. -/
def band (v : Fin 4 → EReal) (l w : ℕ) : EReal := if h : w ≤ l + 2 ∧ l + 2 < w + 4 then v ⟨l + 2 - w, by omega⟩ else 0

/-- A line of 256 values with two zeros before it and zeros after it, at position `p`. -/
def padded (f : Fin 256 → EReal) (p : ℕ) : EReal := if h : 2 ≤ p ∧ p < 258 then f ⟨p - 2, by omega⟩ else 0

/-- An image of 256 by 256 values with two zeros before it and zeros after it along both axes, at position `(p, q)`. -/
def padded2 (x : Fin 256 → Fin 256 → EReal) (p q : ℕ) : EReal := padded (fun k => padded (x k) q) p

/-- An entry of the band matrix as a sum over the taps, at most one term of which is not zero. -/
theorem band_eq_sum (v : Fin 4 → EReal) (l w : ℕ) : band v l w = ∑ j : Fin 4, if l + 2 = w + j then v j else 0 := by
  unfold band
  split_ifs with h
  · rw [Finset.sum_eq_single ⟨l + 2 - w, by omega⟩]
    · rw [if_pos (by simp only; omega)]
    · intro j _ hj
      rw [if_neg]
      intro e
      exact hj (Fin.ext (by simp only; omega))
    · intro h'; exact absurd (Finset.mem_univ _) h'
  · symm
    apply Finset.sum_eq_zero
    intro j _
    have := j.isLt
    rw [if_neg (by omega)]

/-- A tap times the padded line, as a sum over the line. -/
theorem mul_padded (c : EReal) (f : Fin 256 → EReal) (p : ℕ) :
    c * padded f p = ∑ l : Fin 256, if (l : ℕ) + 2 = p then c * f l else 0 := by
  unfold padded
  split_ifs with h
  · rw [Finset.sum_eq_single ⟨p - 2, by omega⟩]
    · rw [if_pos (by simp only; omega)]
    · intro l _ hl
      rw [if_neg]
      intro e
      exact hl (Fin.ext (by simp only; omega))
    · intro h'; exact absurd (Finset.mem_univ _) h'
  · rw [mul_zero]
    symm
    apply Finset.sum_eq_zero
    intro l _
    have := l.isLt
    rw [if_neg (by omega)]

/-- A line times the band matrix is the sum of the four taps times the padded line, shifted. -/
theorem sum_mul_band (v : Fin 4 → EReal) (f : Fin 256 → EReal) (w : ℕ) :
    ∑ l : Fin 256, f l * band v l w = ∑ j : Fin 4, v j * padded f (w + j) := by
  have h : ∀ l : Fin 256, f l * band v l w = ∑ j : Fin 4, if (l : ℕ) + 2 = w + j then v j * f l else 0 := by
    intro l
    rw [band_eq_sum]
    by_cases hj : ∃ j : Fin 4, (l : ℕ) + 2 = w + j
    · obtain ⟨j, hj⟩ := hj
      have hu : ∀ i : Fin 4, ((l : ℕ) + 2 = w + i) ↔ i = j := fun i => ⟨fun e => Fin.ext (by omega), fun e => e ▸ hj⟩
      simp only [hu, Finset.sum_ite_eq', Finset.mem_univ, if_true, mul_comm]
    · have hn : ∀ i : Fin 4, ¬ ((l : ℕ) + 2 = w + i) := fun i e => hj ⟨i, e⟩
      simp only [hn, if_false, Finset.sum_const_zero, mul_zero]
  simp only [h]
  rw [Finset.sum_comm]
  exact Finset.sum_congr rfl fun j _ => (mul_padded (v j) f (w + j)).symm

/-- The band matrix times a column is the sum of the four taps times the padded column, shifted. -/
theorem sum_band_mul (u : Fin 4 → EReal) (t : Fin 256 → EReal) (h : ℕ) :
    ∑ k : Fin 256, band u k h * t k = ∑ i : Fin 4, u i * padded t (h + i) := by
  rw [← sum_mul_band]
  exact Finset.sum_congr rfl fun k _ => mul_comm _ _

/-- Padding commutes with the sum of four taps times a value. -/
theorem padded_sum (v : Fin 4 → EReal) (g : Fin 4 → Fin 256 → EReal) (p : ℕ) :
    padded (fun k => ∑ j : Fin 4, v j * g j k) p = ∑ j : Fin 4, v j * padded (g j) p := by
  unfold padded
  split_ifs with h
  · rfl
  · simp

/-- A padded image of finite values is finite. -/
theorem padded2_finite (x : Fin 256 → Fin 256 → EReal) (hx : ∀ k l, ∃ r : ℝ, x k l = r) (p q : ℕ) :
    ∃ r : ℝ, padded2 x p q = r := by
  unfold padded2 padded
  split_ifs
  · exact hx _ _
  · exact ⟨0, rfl⟩
  · exact ⟨0, rfl⟩

/-- A finite factor which is not negative goes into a sum of four, whatever the terms. -/
theorem mul_sum_of_nonneg (a : EReal) (h0 : 0 ≤ a) (ht : a ≠ ⊤) (f : Fin 4 → EReal) :
    a * ∑ j : Fin 4, f j = ∑ j : Fin 4, a * f j := by
  simp only [Fin.sum_univ_four, EReal.left_distrib_of_nonneg_of_ne_top h0 ht]

/-- A finite factor goes into a sum of four finite terms. -/
theorem mul_sum_of_real (a : ℝ) (f : Fin 4 → ℝ) :
    (a : EReal) * ∑ j : Fin 4, (f j : EReal) = ∑ j : Fin 4, (a : EReal) * (f j : EReal) := by
  simp only [Fin.sum_univ_four]
  norm_cast
  ring

/-- THE EQUATION: the product with the band of the taps `v` along the rows and then with the band of the taps `u` along the
    columns is the sum of sixteen shifted products, the filter's entry `(i, j)` being `u i * v j`; for finite taps, `u`
    having no negative tap or the image being finite. -/
theorem two_bands (u v : Fin 4 → EReal) (hu : ∀ i, ∃ r : ℝ, u i = r) (hv : ∀ j, ∃ r : ℝ, v j = r)
    (x : Fin 256 → Fin 256 → EReal) (hsep : (∀ i, 0 ≤ u i) ∨ ∀ k l, ∃ r : ℝ, x k l = r) (h w : ℕ) :
    ∑ k : Fin 256, band u k h * ∑ l : Fin 256, x k l * band v l w
      = ∑ i : Fin 4, ∑ j : Fin 4, (u i * v j) * padded2 x (h + i) (w + j) := by
  simp only [sum_mul_band]
  rw [sum_band_mul]
  refine Finset.sum_congr rfl fun i _ => ?_
  rw [padded_sum]
  show u i * ∑ j : Fin 4, v j * padded2 x (h + i) (w + j) = _
  simp only [mul_assoc]
  rcases hsep with h0 | hx
  · obtain ⟨a, ha⟩ := hu i
    exact mul_sum_of_nonneg _ (h0 i) (by rw [ha]; exact EReal.coe_ne_top a) _
  · obtain ⟨a, ha⟩ := hu i
    choose b hb using hv
    choose c hc using fun j : Fin 4 => padded2_finite x hx (h + i) (w + j)
    simp only [ha, hb, hc, ← EReal.coe_mul (b _) (c _)]
    exact mul_sum_of_real a fun j => b j * c j

/-- An entry of a filter which is the product of its last column and its last row divided by the corner: `k` the entry, `c`
    the column's, `r` the row's, `d` the corner. -/
theorem entry_eq (k c r d : ℝ) (hd : d ≠ 0) (h : k * d = c * r) : (c : EReal) * ((r : EReal) * (d : EReal)⁻¹) = k := by
  rw [← EReal.coe_inv, ← EReal.coe_mul, ← EReal.coe_mul]
  congr 1
  field_simp
  linarith

end Cert.Blur

end
-- ==== Proof.Mats.lean ====
/- WHAT THE REGION FINDS in its three input arrays: the two band matrices of the filter's first row and first column
   (flipped), which the lines before the region build, and the image with its two leading axes made one. -/
module

public import proofs.«01_k».proof.Proof.Gen.KernelIdeal.Frame
public import proofs.«01_k».proof.Proof.Band
public import Idealize.ShloMosaic.Lib.Claim
public import Idealize.ShloMosaic.Lib.Pointwise
public import Idealize.ShloMosaic.Lib.ValueIdxCore

@[expose] public section

set_option maxRecDepth 16384

noncomputable section

namespace Cert.KernelIdeal.Value

open Cert.KernelIdeal Cert.KernelIdeal.Gen
open Idealize.ShloMosaic Idealize.ShloMosaic.TcCoe Idealize.SL.Sem

/-- Row number minus column number plus two, as a 32-bit word at each entry of a 256 by 256 matrix. -/
def diag : IVec S256x256 32 :=
  addi
    (subi
      (broadcastInDim S256x256 ![0, 1] bcast_S256x1_S256x256_0_1
        (broadcastInDim S256x1 ![0] bcast_S256_S256x1_0 (iotaInDim S256 32 0)))
      (broadcastInDim S256x256 ![0, 1] bcast_S1x256_S256x256_0_1
        (broadcastInDim S1x256 ![1] bcast_S256_S1x256_1 (iotaInDim S256 32 0))))
    (broadcastInDim S256x256 ![] bcast_S_S256x256 (constantI S_ 32 2#32))

/-- That word clamped into the four taps' numbers. -/
def clamped : IVec S256x256 32 :=
  minsi (broadcastInDim S256x256 ![] bcast_S_S256x256 (id (constantI S_ 32 3#32)))
    (maxsi (broadcastInDim S256x256 ![] bcast_S_S256x256 (id (constantI S_ 32 0#32))) diag)

/-- The words the taps are gathered at. -/
def words : IVec S256x256x1 32 :=
  broadcastInDim S256x256x1 ![0, 1] bcast_S256x256_S256x256x1_0_1
    (select (cmpi .slt clamped (broadcastInDim S256x256 ![] bcast_S_S256x256 (constantI S_ 32 0#32)))
      (addi clamped (broadcastInDim S256x256 ![] bcast_S_S256x256 (constantI S_ 32 4#32))) clamped)

/-- The matrix the host lines build of four taps: the tap of each entry's number where that number is one of the four, zero
    elsewhere. -/
def mat (x : FVec Ideal S4 .f32) : FVec Ideal S256x256 .f32 :=
  select
    (andi (cmpi .sge diag (broadcastInDim S256x256 ![] bcast_S_S256x256 (constantI S_ 32 0#32)))
      (cmpi .slt diag (broadcastInDim S256x256 ![] bcast_S_S256x256 (constantI S_ 32 4#32))))
    (Host.gather gather_S4_S256x256x1_S256x256_n_0_n_n_0_2_1 x words)
    (broadcastInDim S256x256 ![] bcast_S_S256x256 (id (constant S_ .f32 0x00000000#32)))

/-- The word of an entry on or under the band's upper edge is the tap's number. -/
theorem diag_of_le (l w : Fin 256) (h : (w : ℕ) ≤ l + 2) : diag (ix2 l w) = BitVec.ofNat 32 (l + 2 - w) := by
  unfold diag
  pointwise
  have hl := l.isLt
  have hw := w.isLt
  show BitVec.ofNat 32 l - BitVec.ofNat 32 w + 2#32 = _
  apply BitVec.eq_of_toNat_eq
  simp only [BitVec.toNat_add, BitVec.toNat_sub, BitVec.toNat_ofNat]
  omega

/-- The word of an entry over the band's upper edge is negative. -/
theorem diag_of_lt (l w : Fin 256) (h : (l : ℕ) + 2 < w) : (diag (ix2 l w)).toInt < 0 := by
  have e : diag (ix2 l w) = BitVec.ofNat 32 (2 ^ 32 + l + 2 - w) := by
    unfold diag
    pointwise
    have hl := l.isLt
    have hw := w.isLt
    show BitVec.ofNat 32 l - BitVec.ofNat 32 w + 2#32 = _
    apply BitVec.eq_of_toNat_eq
    simp only [BitVec.toNat_add, BitVec.toNat_sub, BitVec.toNat_ofNat]
    omega
  have hl := l.isLt
  have hw := w.isLt
  rw [e, BitVec.toInt, BitVec.toNat_ofNat]
  omega

/-- The tap number an entry's word selects: the word clamped into the four numbers, read as an index of the taps. -/
def tapWord (d : BitVec 32) : BitVec 32 :=
  Scalar.select (IntOp.cmpi .slt (IntOp.minsi 3#32 (IntOp.maxsi 0#32 d)) 0#32)
    (IntOp.addi (IntOp.minsi 3#32 (IntOp.maxsi 0#32 d)) 4#32) (IntOp.minsi 3#32 (IntOp.maxsi 0#32 d))

/-- The tap number that word names, kept among the four. -/
def tapOf (d : BitVec 32) : Fin 4 := ⟨min (tapWord d).toInt.toNat (4 - 1), by omega⟩

/-- The word of a tap's number selects that tap. -/
theorem tapOf_ofNat : ∀ j : Fin 4, tapOf (BitVec.ofNat 32 j) = j := by decide

/-- The index of an entry's word among the words. -/
theorem takeIdx_eq (l w : Fin 256) : (ValueIdx.takeIdx (R := 256) (C := 256) (ix2 l w)) = ix3 l w 0 := by
  funext a; fin_cases a <;> rfl

/-- The gather of the taps at the words `idx`. -/
theorem gather_apply (x : FVec Ideal S4 .f32) (idx : IVec S256x256x1 32) (l w : Fin 256) :
    Host.gather gather_S4_S256x256x1_S256x256_n_0_n_n_0_2_1 x idx (ix2 l w)
      = x (ix1 ⟨min (idx (ix3 l w 0)).toInt.toNat (4 - 1), by omega⟩) := by
  refine (ValueIdx.gather_take_apply (N := 4) (R := 256) (C := 256) (by decide)
      gather_S4_S256x256x1_S256x256_n_0_n_n_0_2_1.wf x idx (ix2 l w)).trans (congrArg x ?_)
  funext a
  obtain rfl : a = 0 := Subsingleton.elim _ _
  exact Fin.ext (congrArg (fun y => min (idx y).toInt.toNat (4 - 1)) (takeIdx_eq l w))

/-- The word of an entry is the one that selects its tap. -/
theorem words_apply (l w : Fin 256) : words (ix3 l w 0) = tapWord (diag (ix2 l w)) := by
  unfold words
  pointwise
  unfold clamped
  pointwise
  rfl

/-- An entry of the matrix, from the words of that entry. -/
theorem mat_words (x : FVec Ideal S4 .f32) (l w : Fin 256) :
    mat x (ix2 l w) = Scalar.select (IntOp.andi (IntOp.cmpi .sge (diag (ix2 l w)) 0#32) (IntOp.cmpi .slt (diag (ix2 l w)) 4#32))
      (x (ix1 (tapOf (diag (ix2 l w))))) (0 : EReal) := by
  have e : (⟨min (words (ix3 l w 0)).toInt.toNat (4 - 1), by omega⟩ : Fin 4) = tapOf (diag (ix2 l w)) :=
    Fin.ext (congrArg (fun d : BitVec 32 => min d.toInt.toNat (4 - 1)) (words_apply l w))
  rw [← e, ← gather_apply x words l w]
  unfold mat
  pointwise
  exact congrArg (Scalar.select _ _) Ideal.ofBits_zero_f32

/-- An entry of the matrix is the band matrix's. -/
theorem mat_apply (x : FVec Ideal S4 .f32) (l w : Fin 256) : mat x (ix2 l w) = Blur.band (fun j => x (ix1 j)) l w := by
  rw [mat_words]
  unfold Blur.band
  by_cases h : (w : ℕ) ≤ l + 2
  · rw [diag_of_le l w h]
    by_cases h4 : (l : ℕ) + 2 < w + 4
    · rw [dif_pos ⟨h, h4⟩]
      obtain ⟨j, hj⟩ : ∃ j : Fin 4, j = ⟨(l : ℕ) + 2 - w, by omega⟩ := ⟨_, rfl⟩
      have hj' : (l : ℕ) + 2 - w = (j : ℕ) := by rw [hj]
      rw [← hj, hj', tapOf_ofNat]
      have hb : IntOp.andi (IntOp.cmpi .sge (BitVec.ofNat 32 j) 0#32) (IntOp.cmpi .slt (BitVec.ofNat 32 j) 4#32) = 1#1 := by
        clear hj hj'; revert j; decide
      rw [hb]
      rfl
    · rw [dif_neg (fun h' => h4 h'.2)]
      have hb : IntOp.cmpi .slt (BitVec.ofNat 32 ((l : ℕ) + 2 - w)) 4#32 = 0#1 := by
        have hl := l.isLt
        unfold IntOp.cmpi
        simp only [BitVec.slt, BitVec.toInt, BitVec.toNat_ofNat]
        rw [decide_eq_false (by omega)]
        rfl
      rw [hb]
      unfold IntOp.andi
      rw [BitVec.and_zero]
      rfl
  · rw [dif_neg (fun h' => h h'.1)]
    have hn := diag_of_lt l w (by omega)
    have hb : IntOp.cmpi .sge (diag (ix2 l w)) 0#32 = 0#1 := by
      unfold IntOp.cmpi
      simp only [BitVec.sle]
      rw [decide_eq_false (by have : (0#32).toInt = 0 := rfl; omega)]
      rfl
    rw [hb]
    unfold IntOp.andi
    rw [BitVec.zero_and]
    rfl

variable (m : (ℓ : Loc nD τ sig) → Buf (Elt Ideal) ℓ)

/-- The flipped filter's first row divided by its first entry, -/
def rowTaps (K : FVec Ideal S4x4 .f32) : FVec Ideal S4 .f32 := fun y => Ideal.div (K (ix2 3 ⟨3 - (y 0).val, by omega⟩)) (K (ix2 3 3))
/-- and its first column. -/
def colTaps (K : FVec Ideal S4x4 .f32) : FVec Ideal S4 .f32 := fun y => K (ix2 ⟨3 - (y 0).val, by omega⟩ 3)

/-- The region finds in its first array the matrix of the row's taps. -/
theorem V_row (c : Dev nD) : V m c main_v31 = fun y => mat (rowTaps (m ((c : Thread nD τ).loc main_arg1))) y := by
  show StableHlo.after _ _ _ = _
  simp only [List.flatten_cons, List.flatten_nil, List.append_nil, List.cons_append, List.nil_append,
    hostOps0, hostOps0_1, hostOps0_2, hostOps0_3, hostOps0_4, hostOps0_5, hostOps0_6, hostOps0_7, hostOps0_8, hostOps0_9,
    StableHlo.TRef.binary, StableHlo.TRef.unary, StableHlo.TRef.ternary, StableHlo.TRef.toBuf, StableHlo.TRef.ofBuf, cast_eq]
  after_results_simp
  refine (show _ = truncf .bf16 (mat (divf (shapeCast S4 (extractStridedSlice S1x4 ![0, 0] (Host.reverse [0, 1] (m (c, Proc.tc.devRef main_arg1))) slices_S4x4_S1x4_0_0) shapeCasts_S1x4_S4)
     (broadcastInDim S4 ![] bcast_S_S4 (shapeCast S_ (extractStridedSlice S1x1 ![0, 0] (Host.reverse [0, 1] (m (c, Proc.tc.devRef main_arg1))) slices_S4x4_S1x1_0_0) shapeCasts_S1x1_S_)))) bitsLt_bf16_f32 from rfl).trans ?_
  funext y
  idx_vars y
  pointwise
  congr 1
  funext j
  idx_vars j
  unfold rowTaps
  pointwise
  fin_cases j0 <;> rfl

/-- The region finds in its second array the matrix of the column's taps, transposed. -/
theorem V_col (c : Dev nD) : V m c main_v47 = fun y => mat (colTaps (m ((c : Thread nD τ).loc main_arg1))) (ix2 (y 1) (y 0)) := by
  show StableHlo.after _ _ _ = _
  simp only [List.flatten_cons, List.flatten_nil, List.append_nil, List.cons_append, List.nil_append,
    hostOps0, hostOps0_1, hostOps0_2, hostOps0_3, hostOps0_4, hostOps0_5, hostOps0_6, hostOps0_7, hostOps0_8, hostOps0_9,
    StableHlo.TRef.binary, StableHlo.TRef.unary, StableHlo.TRef.ternary, StableHlo.TRef.toBuf, StableHlo.TRef.ofBuf, cast_eq]
  after_results_simp
  refine (show _ = truncf .bf16 (transpose S256x256 [1, 0] (mat (shapeCast S4 (extractStridedSlice S4x1 ![0, 0] (Host.reverse [0, 1] (m (c, Proc.tc.devRef main_arg1))) slices_S4x4_S4x1_0_0) shapeCasts_S4x1_S4)) transposes_S256x256_S256x256_1_0) bitsLt_bf16_f32 from rfl).trans ?_
  funext y
  idx_vars y
  pointwise
  congr 1
  funext j
  idx_vars j
  unfold colTaps
  pointwise
  fin_cases j0 <;> rfl

/-- The region finds in its third array the image, its two leading axes made one. -/
theorem V_img (c : Dev nD) : V m c main_v48
    = shapeCast S1024x256x256 (m ((c : Thread nD τ).loc main_arg0)) shapeCasts_S8x128x256x256_S1024x256x256 := by
  show StableHlo.after _ _ _ = _
  simp only [List.flatten_cons, List.flatten_nil, List.append_nil, List.cons_append, List.nil_append,
    hostOps0, hostOps0_1, hostOps0_2, hostOps0_3, hostOps0_4, hostOps0_5, hostOps0_6, hostOps0_7, hostOps0_8, hostOps0_9,
    StableHlo.TRef.binary, StableHlo.TRef.unary, StableHlo.TRef.ternary, StableHlo.TRef.toBuf, StableHlo.TRef.ofBuf, cast_eq]
  after_results_simp
  rfl

end Cert.KernelIdeal.Value

end
-- ==== Proof.Blocks.lean ====
/- WHAT ONE GRID POINT LEAVES in its block of the result: for each of the block's 32 images, the product of the second
   input matrix, the image and the first input matrix. -/
module

public import proofs.«01_k».proof.Proof.Gen.KernelIdeal.Frame
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- The images times the first matrix, at an index: the sum along an image's row. -/
theorem rows_apply (x : FVec Ideal S32x256x256 .f32) (a : FVec Ideal S256x256 .bf16) (b : Fin 32) (k w : Fin 256) :
    k0_pay3 (F := Ideal) x a (ix3 b k w) = ∑ l : Fin 256, x (ix3 b k l) * a (ix2 l w) := by
  pointwise [k0_pay3]

/-- The second matrix times one image of `t`, number `b`, at an index: the sum along an image's column. -/
theorem tile_apply (u : FVec Ideal S256x256 .bf16) (t : FVec Ideal S32x256x256 .bf16) (b : ℕ)
    (hs : S32x256x256.Slices ![b, 0, 0] S1x256x256) (x : S1x256x256.Idx) (y : S32x256x256.Idx)
    (h0 : (y 0 : ℕ) = b + x 0) (h1 : (y 1 : ℕ) = x 1) (h2 : (y 2 : ℕ) = x 2) :
    shapeCast S1x256x256 (matmul dot_S256x256_S256x256_S256x256_1_0_0_1_n_n none (shapeCast S256x256 u shapeCasts_S256x256_S256x256)
      (shapeCast S256x256 (extractStridedSlice S1x256x256 ![b, 0, 0] t hs) shapeCasts_S1x256x256_S256x256)
      (constant S256x256 .f32 0x00000000#32)) shapeCasts_S256x256_S1x256x256 x
    = ∑ k : Fin 256, u (ix2 (y 1) k) * t (ix3 (y 0) k (y 2)) := by
  idx_vars x
  idx_vars y
  change (y0 : ℕ) = b + (x0 : ℕ) at h0
  have hx0 : (x0 : ℕ) = 0 := Nat.lt_one_iff.mp x0.isLt
  have hb : (y0 : ℕ) = b := by omega
  pointwise
  subst hb
  obtain rfl : y1 = x1 := Fin.ext h1
  obtain rfl : y2 = x2 := Fin.ext h2
  rfl

/-- One entry of the block a point leaves. -/
theorem block_apply (x0 x1 : Vec Ideal S256x256 .bf16) (x2 : Vec Ideal S32x256x256 .f32) (y : S32x256x256.Idx) :
    out0_3 x0 x1 x2 y = ∑ k : Fin 256, x1 (ix2 (y 1) k) * k0_pay3 (F := Ideal) x2 x0 (ix3 (y 0) k (y 2)) := by
  canon_tiles x h
  all_goals open_payloads
  all_goals exact tile_apply _ _ _ _ x y (by omega) h1 h2

variable (m : (ℓ : Loc nD τ sig) → Buf (Elt Ideal) ℓ)

/-- Every window's block index at a grid point: the two matrices are one block each, the images go 32 at a time. -/
theorem idx_val : ∀ t : Fin cfg0.N, win0_0.index t = ![0, 0] ∧ win0_1.index t = ![0, 0]
    ∧ win0_2.index t = ![t.val, 0, 0] ∧ win0_3.index t = ![t.val, 0, 0] :=
  (by decide +kernel : ∀ t : Fin grid0.N, _)

/-- What the region leaves in its result array, from what it finds in its three input arrays: for every image the product of
    the second matrix, the image and the first matrix. -/
def products (a u : FVec Ideal S256x256 .bf16) (x : FVec Ideal S1024x256x256 .f32) : FVec Ideal S1024x256x256 .f32 := fun y =>
  ∑ k : Fin 256, u (ix2 (y 1) k) * ∑ l : Fin 256, x (ix3 (y 0) k l) * a (ix2 l (y 2))

/-- The body at a grid point, on the blocks of any three arrays, gives that block of `products`. -/
theorem point_of (a u : FVec Ideal S256x256 .bf16) (x : FVec Ideal S1024x256x256 .f32) (t : Fin cfg0.N) (y) :
    out0_3 (((cfg0.win 0).blk t).view.read (Elt Ideal) a) (((cfg0.win 1).blk t).view.read (Elt Ideal) u)
      (((cfg0.win 2).blk t).view.read (Elt Ideal) x) y = products a u x (((cfg0.win 3).blk t).view.emb y) := by
  refine (block_apply _ _ _ y).trans ?_
  unfold products
  refine Finset.sum_congr rfl fun k _ => ?_
  refine congrArg₂ (· * ·) ?_ ((rows_apply _ _ _ _ _).trans (Finset.sum_congr rfl fun l _ => congrArg₂ (· * ·) ?_ ?_))
  · blk_point [idx_val t]
  · blk_point [idx_val t]
  · blk_point [idx_val t]

/-- A grid point leaves in its block of the result that block of `products` of what the region finds. -/
theorem point (c : Dev nD) (t : Fin cfg0.N) (y) :
    out0_3 (iblk m c 0 t) (iblk m c 1 t) (iblk m c 2 t) y
      = products (V m c main_v31) (V m c main_v47) (V m c main_v48) (((cfg0.win 3).blk t).view.emb y) :=
  point_of (V m c main_v31) (V m c main_v47) (V m c main_v48) t y

/-- The result array of the region at the end. -/
theorem final (c : Dev nD) : (dats m 0 c).arrAt 3 (cfgs 0).N = products (V m c main_v31) (V m c main_v47) (V m c main_v48) := by
  refine (dats m 0 c).arrAt_eq_of_covers 3 _ (by decide +kernel) fun t hf y => ?_
  blk_simp
  rw [after0_3]
  exact point m c t y

end Cert.KernelIdeal.Value

end
-- ==== Proof.Tail.lean ====
/- WHAT THE PROGRAM RETURNS: the region's result with its leading axis split back into two. -/
module

public import proofs.«01_k».proof.Proof.Gen.KernelIdeal.Frame
public import Idealize.ShloMosaic.Lib.Claim
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

/-- The returned buffer is the region's output array, reshaped. -/
theorem returned (m : (ℓ : Loc nD τ sig) → Buf (Elt Ideal) ℓ) (c : Dev nD) :
    Pipeline.afterTail₀ cfgs (dats m) 0 (V0 m) [hostOps1] c main_v50
      = shapeCast S8x128x256x256 ((dats m 0 c).arrAt 3 (cfgs 0).N) shapeCasts_S1024x256x256_S8x128x256x256 := by
  unfold Pipeline.afterTail₀
  rw [← Pipeline.withArrays_arr spec0 (by decide) c (V0 m c) (fun w => (dats m 0 c).arrAt w (cfgs 0).N) 3]
  generalize Pipeline.withArrays _ _ _ _ = W
  show StableHlo.after _ _ _ = _
  simp only [List.flatten_cons, List.flatten_nil, List.append_nil, List.cons_append, List.nil_append, hostOps1]
  after_results_simp
  rfl

end Cert.KernelIdeal.Value

end
-- ==== Proof.Ref.lean ====
/- WHAT THE REFERENCE COMPUTES, entry by entry: a sum over the filter's sixteen entries, flipped along both axes, of the entry
   times the padded image moved by the entry's place. -/
module

public import proofs.«01_k».proof.Proof.Gen.ReferenceIdeal.Run
public import proofs.«01_k».proof.Proof.Band
public import Idealize.ShloMosaic.Lib.Claim
public import Idealize.ShloMosaic.Lib.Pointwise
public import Idealize.ShloMosaic.Lib.IdealHost
public import Idealize.ShloMosaic.Lib.KernelVsHost

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

variable (X : FVec Ideal S8x128x256x256 .f32) (K : FVec Ideal S4x4 .f32)

/-- The image padded with two zeros before and one after, along its last two axes. -/
def wide : FVec Ideal S8x128x259x259 .f32 :=
  pad S8x128x259x259 ![0, 0, 2, 2] ![0, 0, 1, 1] ![0, 0, 0, 0] X (sitofp .f32 (constantI S_ 32 0#32))
    pads_S8x128x256x256_S8x128x259x259_000_000_210_210 h_S_

/-- The padded image's entries. -/
theorem wide_apply (n : Fin 8) (c : Fin 128) (p q : Fin 259) :
    wide X (ix4 n c p q) = Blur.padded2 (fun k l => X (ix4 n c k l)) p q := by
  have hz : (sitofp .f32 (constantI S_ 32 0#32) : FVec Ideal S_ .f32) (Shape.Idx.first h_S_) = (0 : EReal) := by
    show (((0#32 : BitVec 32).toInt : ℝ) : EReal) = 0
    simp
  unfold wide Blur.padded2 Blur.padded
  by_cases hp : 2 ≤ p.val ∧ p.val < 258
  · by_cases hq : 2 ≤ q.val ∧ q.val < 258
    · rw [dif_pos hp]
      dsimp only
      rw [dif_pos hq]
      refine pad_apply_of_inside _ _ _ _ _ _ _ _ (ix4 n c ⟨p.val - 2, by omega⟩ ⟨q.val - 2, by omega⟩) ?_
      intro a
      fin_cases a
      · show n.val = 0 + n.val * 1; omega
      · show c.val = 0 + c.val * 1; omega
      · show p.val = 2 + (p.val - 2) * 1; omega
      · show q.val = 2 + (q.val - 2) * 1; omega
    · rw [dif_pos hp]
      dsimp only
      rw [dif_neg hq]
      refine (pad_apply_of_not_inside _ _ _ _ _ _ _ _ 3 ?_).trans hz
      show ¬(2 ≤ q.val ∧ (q.val - 2) % 1 = 0 ∧ (q.val - 2) / 1 < 256)
      omega
  · rw [dif_neg hp]
    refine (pad_apply_of_not_inside _ _ _ _ _ _ _ _ 2 ?_).trans hz
    show ¬(2 ≤ p.val ∧ (p.val - 2) % 1 = 0 ∧ (p.val - 2) / 1 < 256)
    omega

/-- One of the sixteen products: the flipped filter's entry times the padded image moved by the entry's place. -/
theorem term_apply (i j : Fin 4) (hs : S4x4.Slices ![i.val, j.val] S1x1)
    (hp : S8x128x259x259.Slices ![0, 0, i.val, j.val] S8x128x256x256)
    (n : Fin 8) (c : Fin 128) (h w : Fin 256) :
    mulf
      (broadcastInDim S8x128x256x256 ![] bcast_S_S8x128x256x256
        (shapeCast S_ (extractStridedSlice S1x1 ![i.val, j.val] (Host.reverse [0, 1] K) hs) shapeCasts_S1x1_S_))
      (extractStridedSlice S8x128x256x256 ![0, 0, i.val, j.val] (wide X) hp) (ix4 n c h w)
      = (K (ix2 ⟨3 - i.val, by omega⟩ ⟨3 - j.val, by omega⟩) : EReal)
          * Blur.padded2 (fun k l => X (ix4 n c k l)) (h + i) (w + j) := by
  have h2 : extractStridedSlice S8x128x256x256 ![0, 0, i.val, j.val] (wide X) hp (ix4 n c h w)
      = Blur.padded2 (fun k l => X (ix4 n c k l)) (h + i) (w + j) := by
    refine Eq.trans ?_ ((wide_apply X n c ⟨h.val + i.val, by omega⟩ ⟨w.val + j.val, by omega⟩).trans rfl)
    pointwise
    congr 2 <;> exact Fin.ext (Nat.add_comm _ _)
  have h1 : broadcastInDim S8x128x256x256 ![] bcast_S_S8x128x256x256
        (shapeCast S_ (extractStridedSlice S1x1 ![i.val, j.val] (Host.reverse [0, 1] K) hs) shapeCasts_S1x1_S_) (ix4 n c h w)
      = K (ix2 ⟨3 - i.val, by omega⟩ ⟨3 - j.val, by omega⟩) := by
    clear h2
    fin_cases i <;> fin_cases j <;> pointwise <;> rfl
  show (_ * _ : EReal) = _
  rw [h1, h2]

/-- The blurred image at an index: the sixteen products summed. -/
def blurred (n : Fin 8) (c : Fin 128) (h w : Fin 256) : EReal :=
  ∑ i : Fin 4, ∑ j : Fin 4, (K (ix2 ⟨3 - i.val, by omega⟩ ⟨3 - j.val, by omega⟩) : EReal)
    * Blur.padded2 (fun k l => X (ix4 n c k l)) (h + i) (w + j)

/-- The reference's result at an index is the blurred image there. -/
theorem res_apply (m : (ℓ : Loc nD τ sig) → Buf (Elt Ideal) ℓ) (d : Dev nD) (n : Fin 8) (c : Fin 128) (h w : Fin 256) :
    res_main_v98 (F := Ideal) m d (ix4 n c h w)
      = blurred (m ((d.tc : Thread nD τ).loc main_arg0)) (m ((d.tc : Thread nD τ).loc main_arg1)) n c h w := by
  unfold res_main_v98 blurred
  generalize m ((d.tc : Thread nD τ).loc main_arg0) = X
  generalize m ((d.tc : Thread nD τ).loc main_arg1) = K
  have hz : (broadcastInDim S8x128x256x256 ![] bcast_S_S8x128x256x256 (constant S_ .f32 0x00000000#32) : FVec Ideal _ .f32)
      (ix4 n c h w) = (0 : EReal) := by
    pointwise
  have t := fun (i j : Fin 4) hs hp => term_apply X K i j hs hp n c h w
  rw [Fin.sum_univ_four, Fin.sum_univ_four, Fin.sum_univ_four, Fin.sum_univ_four, Fin.sum_univ_four]
  simp only [← add_assoc]
  simp only [addf_apply, Ideal.addf_def]
  have e : ∀ {a b c d : EReal}, a = b → c = d → a + c = b + d := fun h h' => by rw [h, h']
  refine e ?_ (t 3 3 slices_S4x4_S1x1_3_3 slices_S8x128x259x259_S8x128x256x256_0_0_3_3)
  refine e ?_ (t 3 2 slices_S4x4_S1x1_3_2 slices_S8x128x259x259_S8x128x256x256_0_0_3_2)
  refine e ?_ (t 3 1 slices_S4x4_S1x1_3_1 slices_S8x128x259x259_S8x128x256x256_0_0_3_1)
  refine e ?_ (t 3 0 slices_S4x4_S1x1_3_0 slices_S8x128x259x259_S8x128x256x256_0_0_3_0)
  refine e ?_ (t 2 3 slices_S4x4_S1x1_2_3 slices_S8x128x259x259_S8x128x256x256_0_0_2_3)
  refine e ?_ (t 2 2 slices_S4x4_S1x1_2_2 slices_S8x128x259x259_S8x128x256x256_0_0_2_2)
  refine e ?_ (t 2 1 slices_S4x4_S1x1_2_1 slices_S8x128x259x259_S8x128x256x256_0_0_2_1)
  refine e ?_ (t 2 0 slices_S4x4_S1x1_2_0 slices_S8x128x259x259_S8x128x256x256_0_0_2_0)
  refine e ?_ (t 1 3 slices_S4x4_S1x1_1_3 slices_S8x128x259x259_S8x128x256x256_0_0_1_3)
  refine e ?_ (t 1 2 slices_S4x4_S1x1_1_2 slices_S8x128x259x259_S8x128x256x256_0_0_1_2)
  refine e ?_ (t 1 1 slices_S4x4_S1x1_1_1 slices_S8x128x259x259_S8x128x256x256_0_0_1_1)
  refine e ?_ (t 1 0 slices_S4x4_S1x1_1_0 slices_S8x128x259x259_S8x128x256x256_0_0_1_0)
  refine e ?_ (t 0 3 slices_S4x4_S1x1_0_3 slices_S8x128x259x259_S8x128x256x256_0_0_0_3)
  refine e ?_ (t 0 2 slices_S4x4_S1x1_0_2 slices_S8x128x259x259_S8x128x256x256_0_0_0_2)
  refine e ?_ (t 0 1 slices_S4x4_S1x1_0_1 slices_S8x128x259x259_S8x128x256x256_0_0_0_1)
  exact (e hz (t 0 0 slices_S4x4_S1x1_0_0 slices_S8x128x259x259_S8x128x256x256_0_0_0_0)).trans (zero_add _)

end Cert.ReferenceIdeal.Value

end
-- ==== Proof.Equation.lean ====
/- THE EQUATION: under the precondition the two band products of every channel image are the reference's sum of sixteen moved
   images. -/
module

public import proofs.«01_k».proof.Proof.Pre
public import proofs.«01_k».proof.Proof.Mats
public import proofs.«01_k».proof.Proof.Blocks
public import proofs.«01_k».proof.Proof.Tail
public import proofs.«01_k».proof.Proof.Ref

@[expose] public section

set_option maxRecDepth 16384

noncomputable section

namespace Cert.KernelIdeal.Value

open Cert.KernelIdeal Cert.KernelIdeal.Gen
open Idealize.ShloMosaic Idealize.ShloMosaic.TcCoe Idealize.SL.Sem

/-- Splitting the leading axis in two: image `n`'s channel `c` is entry `128 n + c` of the joined axis. -/
theorem split_apply (y : FVec Ideal S1024x256x256 .f32) (n : Fin 8) (c : Fin 128) (h w : Fin 256) :
    shapeCast S8x128x256x256 y shapeCasts_S1024x256x256_S8x128x256x256 (ix4 n c h w)
      = y (ix3 ⟨n.val * 128 + c.val, by omega⟩ h w) := by
  pointwise

/-- Joining the two leading axes: entry `128 n + c` is image `n`'s channel `c`. -/
theorem join_apply (x : FVec Ideal S8x128x256x256 .f32) (n : Fin 8) (c : Fin 128) (h w : Fin 256) :
    shapeCast S1024x256x256 x shapeCasts_S8x128x256x256_S1024x256x256 (ix3 ⟨n.val * 128 + c.val, by omega⟩ h w)
      = x (ix4 n c h w) := by
  pointwise

variable (X : FVec Ideal S8x128x256x256 .f32) (K : FVec Ideal S4x4 .f32)

/-- The kernel's result in terms of the two arguments. -/
def twice : FVec Ideal S8x128x256x256 .f32 :=
  shapeCast S8x128x256x256
    (products (fun y => mat (rowTaps K) y) (fun y => mat (colTaps K) (ix2 (y 1) (y 0)))
      (shapeCast S1024x256x256 X shapeCasts_S8x128x256x256_S1024x256x256))
    shapeCasts_S1024x256x256_S8x128x256x256

/-- The kernel's result at an index: the image's channel between the two band matrices. -/
theorem twice_apply (n : Fin 8) (c : Fin 128) (h w : Fin 256) :
    twice X K (ix4 n c h w)
      = ∑ k : Fin 256, Blur.band (fun i => colTaps K (ix1 i)) k h
          * ∑ l : Fin 256, (X (ix4 n c k l) : EReal) * Blur.band (fun j => rowTaps K (ix1 j)) l w := by
  unfold twice
  rw [split_apply]
  unfold products
  refine Finset.sum_congr rfl fun k _ => ?_
  refine congrArg₂ (· * ·) (mat_apply (colTaps K) k h) (Finset.sum_congr rfl fun l _ => ?_)
  exact congrArg₂ (· * ·) (join_apply X n c k l) (mat_apply (rowTaps K) l w)

/-- The equation, from what the precondition says. -/
theorem twice_eq_blurred (hK : ∀ a b, ∃ r : ℝ, K (ix2 a b) = (r : EReal)) (h0 : K (ix2 3 3) ≠ (0 : EReal))
    (hprod : ∀ a b, (K (ix2 a b) * K (ix2 3 3) : EReal) = K (ix2 a 3) * K (ix2 3 b))
    (hsign : (∀ a, (0 : EReal) ≤ K (ix2 a 3)) ∨ ∀ n c k l, ∃ r : ℝ, X (ix4 n c k l) = (r : EReal))
    (n : Fin 8) (c : Fin 128) (h w : Fin 256) :
    twice X K (ix4 n c h w) = Cert.ReferenceIdeal.Value.blurred X K n c h w := by
  have hdiv : ∀ x y : EReal, y ≠ 0 → Ideal.div x y = x * y⁻¹ := fun x y hy => by simp [Ideal.div, hy]
  have hr : ∀ j : Fin 4, rowTaps K (ix1 j) = (K (ix2 3 ⟨3 - j.val, by omega⟩) : EReal) * (K (ix2 3 3) : EReal)⁻¹ :=
    fun j => hdiv _ _ h0
  have hc : ∀ i : Fin 4, colTaps K (ix1 i) = K (ix2 ⟨3 - i.val, by omega⟩ 3) := fun i => rfl
  obtain ⟨d, hd⟩ := hK 3 3
  have hd0 : d ≠ 0 := fun e => h0 (by rw [hd, e]; rfl)
  rw [twice_apply, Blur.two_bands (fun i => colTaps K (ix1 i)) (fun j => rowTaps K (ix1 j)) ?_ ?_ (fun k l => X (ix4 n c k l)) ?_]
  · unfold Cert.ReferenceIdeal.Value.blurred
    refine Finset.sum_congr rfl fun i _ => Finset.sum_congr rfl fun j _ => congrArg (· * _) ?_
    show (colTaps K (ix1 i) * rowTaps K (ix1 j) : EReal) = _
    rw [hc, hr]
    have hp := hprod ⟨3 - i.val, by omega⟩ ⟨3 - j.val, by omega⟩
    obtain ⟨k, hk⟩ := hK ⟨3 - i.val, by omega⟩ ⟨3 - j.val, by omega⟩
    obtain ⟨a, ha⟩ := hK ⟨3 - i.val, by omega⟩ 3
    obtain ⟨b, hb⟩ := hK 3 ⟨3 - j.val, by omega⟩
    rw [hk, ha, hb, hd] at hp
    rw [hk, ha, hb, hd]
    exact Blur.entry_eq k a b d hd0 (by exact_mod_cast hp)
  · intro i
    exact hK _ _
  · intro j
    obtain ⟨b, hb⟩ := hK 3 ⟨3 - j.val, by omega⟩
    exact ⟨b * d⁻¹, by show rowTaps K (ix1 j) = _; rw [hr, hb, hd, EReal.coe_mul, EReal.coe_inv]⟩
  · exact hsign.imp (fun h i => h _) fun h k l => h n c k l

/-- What the kernel's program returns is the reference's result. -/
theorem value (m : (ℓ : Loc nD τ sig) → Buf (Elt Ideal) ℓ)
    (m' : (ℓ : Loc Cert.ReferenceIdeal.nD Cert.ReferenceIdeal.τ Cert.ReferenceIdeal.sig) → Buf (Elt Ideal) ℓ)
    (c : Dev nD) (c' : Dev Cert.ReferenceIdeal.nD)
    (hX : m' ((c'.tc : Thread Cert.ReferenceIdeal.nD Cert.ReferenceIdeal.τ).loc Cert.ReferenceIdeal.main_arg0)
      = m ((c : Thread nD τ).loc main_arg0))
    (hK : m' ((c'.tc : Thread Cert.ReferenceIdeal.nD Cert.ReferenceIdeal.τ).loc Cert.ReferenceIdeal.main_arg1)
      = m ((c : Thread nD τ).loc main_arg1))
    (hpre : Cert.Pre_KernelIdeal_separable m) :
    Cert.ReferenceIdeal.Value.res_main_v98 (F := Ideal) m' c'
      = Pipeline.afterTail₀ cfgs (dats m) 0 (V0 m) [hostOps1] c main_v50 := by
  rw [returned, final, V_row, V_col, V_img]
  change _ = twice (m ((c : Thread nD τ).loc main_arg0)) (m ((c : Thread nD τ).loc main_arg1))
  funext y
  obtain ⟨n, ch, h, w, rfl⟩ : ∃ (n : Fin 8) (ch : Fin 128) (h w : Fin 256), y = ix4 n ch h w :=
    ⟨y 0, y 1, y 2, y 3, by funext a; fin_cases a <;> rfl⟩
  rw [Cert.ReferenceIdeal.Value.res_apply, hX, hK]
  have hp := hpre c
  exact (twice_eq_blurred _ _ (Cert.Pre_separable.Value.finite_of _ _ hp.1) (Cert.Pre_separable.Value.corner_of _ _ hp.2.1)
    (Cert.Pre_separable.Value.product_of _ _ hp.2.2.1) (Cert.Pre_separable.Value.sign_of _ _ hp.2.2.2) n ch h w).symm

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separable
public import proofs.«01_k».proof.Proof.Gen.ReferenceIdeal.Run
public import proofs.«01_k».proof.Proof.Equation
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- On the extended reals the kernel returns what the reference returns, whenever the precondition holds of the kernel's
    arguments and the reference is given the same ones. -/
theorem algebraic : Cert.algebraic_KernelIdeal_ReferenceIdeal_pre_separable := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
  · run_from Cert.ReferenceIdeal.Value.run m' g'
    exact Cert.KernelIdeal.Value.value m m' c c (hagree c).1 (hagree c).2 hpre

/-- The reference ends with its arguments unchanged and every counter at zero. -/
theorem reference_frame : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

/-- Every claim of the statement. -/
theorem claim : Cert.Claim :=
  ⟨Cert.Kernel.Gen.facts, Cert.KernelIdeal.Gen.facts, Cert.ReferenceIdeal.Gen.facts, Cert.Pre_separable.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    algebraic⟩

end Cert.Proof

end
